-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_minus_inf [hPre_no_minus_inf : Cert.Pre_no_minus_inf.Facts] (m : (ℓ : Loc Cert.KernelIdeal.nD Cert.KernelIdeal.τ Cert.KernelIdeal.sig) → Buf (Elt Ideal) ℓ) : Prop :=
  ∀ c : Dev Cert.KernelIdeal.nD,
    (Cert.Pre_no_minus_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_minus_inf [hPre_no_minus_inf : Cert.Pre_no_minus_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_minus_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_no_minus_inf [hKernelIdeal : Cert.KernelIdeal.Facts] [hPre_no_minus_inf : Cert.Pre_no_minus_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_minus_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_no_minus_inf [hReferenceIdeal : Cert.ReferenceIdeal.Facts] [hPre_no_minus_inf : Cert.Pre_no_minus_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_minus_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "k1" .f32 0x3D122279#32 ((80338380498831 / 2251799813685248 : ℝ) : EReal)

def algebraic_KernelIdeal_ReferenceIdeal_pre_no_minus_inf [hKernelIdeal : Cert.KernelIdeal.Facts] [hReferenceIdeal : Cert.ReferenceIdeal.Facts] [hPre_no_minus_inf : Cert.Pre_no_minus_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_minus_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_no_minus_inf : Cert.Pre_no_minus_inf.Facts),
    quiescent_Kernel (hKernel := hKernel)
    ∧ quiescent_KernelIdeal (hKernelIdeal := hKernelIdeal)
    ∧ quiescent_KernelIdeal_pre_no_minus_inf (hKernelIdeal := hKernelIdeal) (hPre_no_minus_inf := hPre_no_minus_inf)
    ∧ quiescent_ReferenceIdeal (hReferenceIdeal := hReferenceIdeal)
    ∧ quiescent_ReferenceIdeal_pre_no_minus_inf (hReferenceIdeal := hReferenceIdeal) (hPre_no_minus_inf := hPre_no_minus_inf)
    ∧ preserves_Kernel_KernelIdeal
    ∧ algebraic_KernelIdeal_ReferenceIdeal_pre_no_minus_inf (hKernelIdeal := hKernelIdeal) (hReferenceIdeal := hReferenceIdeal) (hPre_no_minus_inf := hPre_no_minus_inf)
-- ==== Pre_no_minus_inf.lean ====
abbrev S4x8192x2048 : Shape := ⟨3, ![4, 8192, 2048]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel

variable [Facts]

def fn {F : FTy → Type} [FloatOps F] (main_arg0 : FVec F S4x8192x2048 .f32) (main_arg1 : FVec F S_ .f32) (main_arg2 : FVec F S_ .f32) : IVec S_ 1 :=
  let main_cst : FVec F S_ .f32 := constant S_ .f32 0xFF800000#32
  let main_v0 : FVec F S4x8192x2048 .f32 := broadcastInDim S4x8192x2048 ![] bcast_S_S4x8192x2048 main_cst
  let main_v1 : IVec S4x8192x2048 1 := cmpf .ogt main_arg0 main_v0
  let main_c : IVec S_ 1 := constantI S_ 1 1#1
  let main_v2 : IVec S_ 1 := (fun x v => Host.reduce IntOp.andi x v reducesTo_S4x8192x2048_S_d0_1_2 h_S_) main_v1 main_c
  main_v2
-- ==== Kernel.lean ====
abbrev S4x8192x2048 : Shape := ⟨3, ![4, 8192, 2048]⟩
abbrev S_ : Shape := ⟨0, ![]⟩
abbrev S32768x2048 : Shape := ⟨2, ![32768, 2048]⟩
abbrev S2040x2048 : Shape := ⟨2, ![2040, 2048]⟩

abbrev nBuf : Space → Nat
  | .hbm => 6
  | .vmem => 4
  | .smem => 0
  | _ => 0

abbrev bufTy : (tb : Table) → Fin (tcTables nBuf tb) → BufTy
  | .hbm, ⟨0, _⟩ => ⟨S4x8192x2048, .f32⟩
  | .hbm, ⟨1, _⟩ => ⟨S_, .f32⟩
  | .hbm, ⟨2, _⟩ => ⟨S_, .f32⟩
  | .hbm, ⟨3, _⟩ => ⟨S32768x2048, .f32⟩
  | .hbm, ⟨4, _⟩ => ⟨S32768x2048, .f32⟩
  | .hbm, ⟨5, _⟩ => ⟨S4x8192x2048, .f32⟩
  | .local _ .vmem, ⟨0, _⟩ => ⟨S2040x2048, .f32⟩
  | .local _ .vmem, ⟨1, _⟩ => ⟨S2040x2048, .f32⟩
  | .local _ .vmem, ⟨2, _⟩ => ⟨S2040x2048, .f32⟩
  | .local _ .vmem, ⟨3, _⟩ => ⟨S2040x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2040x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2040x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "k1" => some ((80338380498831 / 2251799813685248 : ℝ) : EReal)
  | _ => none
-- ==== ReferenceIdeal.lean ====
abbrev S4x8192x2048 : Shape := ⟨3, ![4, 8192, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S4x8192x2048, .f32⟩
  | .hbm, ⟨5, _⟩ => ⟨S4x8192x2048, .f32⟩
  | .hbm, ⟨6, _⟩ => ⟨S4x8192x2048, .f32⟩
  | .hbm, ⟨7, _⟩ => ⟨S4x8192x2048, .f32⟩
  | .hbm, ⟨8, _⟩ => ⟨S_, .f32⟩
  | .hbm, ⟨9, _⟩ => ⟨S4x8192x2048, .f32⟩
  | .hbm, ⟨10, _⟩ => ⟨S4x8192x2048, .f32⟩
  | .hbm, ⟨11, _⟩ => ⟨S4x8192x2048, .f32⟩
  | .hbm, ⟨12, _⟩ => ⟨S_, .f32⟩
  | .hbm, ⟨13, _⟩ => ⟨S4x8192x2048, .f32⟩
  | .hbm, ⟨14, _⟩ => ⟨S4x8192x2048, .f32⟩
  | .hbm, ⟨15, _⟩ => ⟨S4x8192x2048, .f32⟩
  | .hbm, ⟨16, _⟩ => ⟨S_, .f32⟩
  | .hbm, ⟨17, _⟩ => ⟨S4x8192x2048, .f32⟩
  | .hbm, ⟨18, _⟩ => ⟨S4x8192x2048, .f32⟩
  | .hbm, ⟨19, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Proof.IdealRun.lean ====
/-
  How the idealized kernel runs. Its region walks the 32768 rows of the reshaped argument in seventeen blocks of 2040
  rows, of which the last reaches past the array: only 128 of its rows are the array's. The body maps one scalar
  function, `gelu`, over the staged block, so the rows past the end never mix with the others. This module states what
  a block's body does, and the run of the whole program that follows from it.
-/
module

public import proofs.«01_k».proof.Defs
public import proofs.«01_k».proof.Proof.Gen.KernelIdeal.Frame
public import proofs.«01_k».proof.Proof.Gen.KernelIdeal.Skeleton
public import Idealize.ShloMosaic.Lib.Pipeline.Value
public import Idealize.ShloMosaic.Lib.Tactic
public import Idealize.ShloMosaic.Lib.WritesUnit

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ (UR sig nD τ) ℕ

/-- What the kernel computes from one entry: `hx + hx * tanh (x * (k1 * (x * x) + k0))`, with `hx` half of `x`. -/
def gelu (x : F .f32) : F .f32 :=
  let hx := FloatOps.mulf (Scalar.ofBits .f32 0x3F000000#32) x
  FloatOps.addf hx (FloatOps.mulf hx (FloatOps.tanh (FloatOps.mulf x
    (FloatOps.addf (FloatOps.mulf (Named.named κ "k1" 0x3D122279#32) (FloatOps.mulf x x)) (Scalar.ofBits .f32 0x3F4C422A#32)))))

/-- The block that the body stores is `gelu` of the block that it loads, entry by entry. -/
theorem pay_eq (X : Vec F S2040x2048 .f32) : k0_pay1 X = fun j => gelu (X j) := by
  unfold k0_pay1
  rw [shapeCast_self]
  rfl

/-- The body on any two staging buffers: the first is left as found, the second ends at `gelu` of the first. -/
theorem body_triple (c : Dev nD) (i : grid0.Coords) (a b : Memref sig .tc .vmem S2040x2048 .f32) (ha : a.IsWhole) (hb : b.IsWhole)
    (X Y : S2040x2048.Idx → Elt F .f32) (K : PUnit → sProp 𝕄) :
    iprop((owns (c : Thread nD τ) a fullShare X ∗ owns (c : Thread nD τ) b fullShare Y)
          ∗ (iprop(owns (c : Thread nD τ) a fullShare X ∗ owns (c : Thread nD τ) b fullShare (fun j => gelu (X j))) -∗ K ⟨⟩))
      ⊢ wp frame (wpE (defs₀ (F := F)) Variants.none c none) Set.univ (cc0__gelu_block i a ha b hb) K := by
  have hz : (![0, 0] : Fin 2 → Nat) = fun _ => 0 := funext fun k => by fin_cases k <;> rfl
  simp only [cc0__gelu_block_eq_skeleton]; unfold cc0__gelu_block_skel owns
  simp only [Prog.lift, Prog.bind_op, Prog.bind_ret]
  iintro ⟨⟨⟨%f, %hf, Ha⟩, ⟨%g, %hg, Hb⟩⟩, Hk⟩
  sl_steps
  iapply Hk
  isplitl [Ha]
  · iexists f; isplitr; · ipureintro; exact hf
    iexact Ha
  · iexists _
    isplitr
    rotate_left
    · iexact Hb
    ipureintro
    rw [pay_eq]
    funext y
    refine (View.read_writes_cons_unit_of_mem (v := b.view) (Val := Elt F) (f := g) inb_S2040x2048_S2040x2048_0_0 _ [] y y hz
      fun k => (Nat.zero_add _).symm).trans ?_
    exact congrArg (fun Z : S2040x2048.Idx → Elt F .f32 => gelu (Z y))
      ((View.ld_unit_zero hz inb_S2040x2048_S2040x2048_0_0 (a.view.read (Elt F) f)).trans hf)

/-! ## The region -/

variable (m : (ℓ : Loc nD τ sig) → Buf (Elt F) ℓ) (ρ : Dev nD → PrngReg)

/-- The rows of the reshaped argument that the array holds of the block at point `t`. -/
def xrows (c : Dev nD) (t : Fin cfg0.N) : (win0_0.xblock (grid0.coords t)).Idx → Elt F .f32 := iblk m c 0 t

/-- The argument's staging buffer at `t`: those rows, and a word that nothing reads past the array's end. -/
def xstage (c : Dev nD) (t : Fin cfg0.N) : S2040x2048.Idx → Elt F .f32 :=
  win0_0.fill (grid0.coords t) (fun _ => Scalar.ofBits .f32 0#32) (xrows m c t)

/-- The result's staging buffer at `t`: `gelu` of those rows, and a word that nothing reads past the array's end. -/
def ystage (c : Dev nD) (t : Fin cfg0.N) : S2040x2048.Idx → Elt F .f32 :=
  win0_0.fill (grid0.coords t) (fun _ => Scalar.ofBits .f32 0#32) (fun j => gelu (xrows m c t j))

/-- What the region's proof supplies: the arrays as the region finds them, and the two buffers after each block. -/
def dats (_ : Fin 1) (c : Dev nD) : Dat τ (Elt F) Unit ℕ (UR sig nD τ) ℕ cfg0 c where
  A w := V m c (Pipeline.arrRef spec0 w)
  after w t := match w with
    | ⟨0, _⟩ => xstage m c t
    | ⟨1, _⟩ => ystage m c t
  Φ _ := Pipeline.ΦA spec0 c
  q _ := fullShare
  owed _ := 0

/-- The body finds the argument's buffer filled with the block's rows over whatever lay there. -/
theorem before_x (c : Dev nD) (t : Fin cfg0.N) (d) :
    (dats m 0 c).before (0 : Fin 2) t d = win0_0.fill (grid0.coords t) d (xrows m c t) :=
  (dats m 0 c).before_fetched (0 : Fin 2) t (fetch0_0 t) d

/-- The body finds the result's buffer at contents that nothing names. -/
theorem before_y (c : Dev nD) (t : Fin cfg0.N) (d) : (dats m 0 c).before (1 : Fin 2) t d = d :=
  (dats m 0 c).before_out_reset (1 : Fin 2) rfl t
    ((Nat.eq_zero_or_pos t.val).imp id fun h => ⟨Nat.ne_of_gt h, flush0_1 _⟩) d

/-- `gelu` of a filled block is the block of `gelu`s, filled. -/
theorem gelu_fill (t : Fin cfg0.N) (d : S2040x2048.Idx → Elt F .f32) (g : (win0_0.xblock (grid0.coords t)).Idx → Elt F .f32) :
    (fun j => gelu (win0_0.fill (grid0.coords t) d g j)) = win0_0.fill (grid0.coords t) (fun j => gelu (d j)) (fun j => gelu (g j)) := by
  funext j; unfold Window.fill; split <;> rfl

/-- The body at every point: it keeps the argument's rows and leaves their `gelu`s in the result's buffer. -/
theorem body_obligation (c : Dev nD) : BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d, Hx⟩, ⟨%e, Hy⟩⟩
  rw [before_x m c t d, before_y m c t e]
  iapply (body_triple (F := F) c (grid0.coords t) (st0_0 t) (st0_1 t) (hstage0_0 ((cfg0.slots t 0).cast nbuf0_0))
    (hstage0_1 ((cfg0.slots t 1).cast nbuf0_1)) (win0_0.fill (grid0.coords t) d (xrows m c t)) e _)
  isplitl [Hx Hy]
  · isplitl [Hx]
    · iexact Hx
    · iexact Hy
  iintro ⟨Hx, Hy⟩
  isplitl [HΦ]; · iexact HΦ
  isplitl [Ho]; · iexact Ho
  isplitl [Hx]
  · iexists d
    change _ ⊢ owns (c : Thread nD τ) (st0_0 t) fullShare (win0_0.fill (grid0.coords t) d (win0_0.cut (grid0.coords t) (xstage m c t)))
    rw [show win0_0.cut (grid0.coords t) (xstage m c t) = xrows m c t from win0_0.cut_fill _ _ _]
  · iexists (fun j => gelu (d j))
    change _ ⊢ owns (c : Thread nD τ) (st0_1 t) fullShare (win0_0.fill (grid0.coords t) (fun j => gelu (d j)) (win0_0.cut (grid0.coords t) (ystage m c t)))
    rw [show win0_0.cut (grid0.coords t) (ystage m c t) = fun j => gelu (xrows m c t j) from win0_0.cut_fill _ _ _, ← gelu_fill]
    exact BI.Entails.refl _

/-- What the program leaves: the region's arrays as its proof data computes them, the other buffers as the host lines
    after the region leave them, and every semaphore counter at zero. -/
def Left (r : PUnit × MemSt nD τ sig (Elt F)) : Prop :=
  Pipeline.FramePost cfgs (dats m) 0 (Pipeline.afterTail₀ cfgs (dats m) 0 (V0 m) [hostOps1]) r ∧ r.2.sem = fun _ => 0

set_option backward.isDefEq.respectTransparency.types false in
/-- The program terminates from any memory whose counters are zero, and leaves `Left`. -/
theorem run : θ_run defs (onTc (τ := τ) (main (F := F))) (s₀ m ρ) (Left m) :=
  Pipeline.θ_run_frame_around cfgs (dats m) (0 : Fin 1) launch0 defs₀ Variants.none m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl) (Q' := Left m) (hQ' := fun _ h => h)

/-- The program leaves its three arguments as it found them, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c),
       ((h.1 c).2 main_arg2 (Pipeline.mem_restRefs_of main_arg2 (by decide) (by decide))).trans (W_main_arg2 m (dats m) c)⟩, h.2⟩)
    (run m ρ)

end Cert.KernelIdeal.Run

end
-- ==== Proof.IdealValue.lean ====
/-
  What the idealized kernel's result holds: `gelu` of the argument, entry by entry. The seventeen blocks cover the
  32768 rows, so the region's array ends at `gelu` of the reshaped argument; the reshape after the region undoes the one
  before it.
-/
module

public import proofs.«01_k».proof.Proof.IdealRun

@[expose] public section

noncomputable section

namespace Cert.KernelIdeal.Run

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]

variable (m : (ℓ : Loc nD τ sig) → Buf (Elt F) ℓ) (ρ : Dev nD → PrngReg)

/-- `gelu` of the reshaped argument, entry by entry. -/
def rows (c : Dev nD) : Buf (Elt F) ((c : Thread nD τ).loc main_v1) :=
  fun i : S32768x2048.Idx => gelu (V m c main_v0 i)

/-- `gelu` of the argument, entry by entry. -/
def result (c : Dev nD) : Buf (Elt F) ((c : Thread nD τ).loc main_v2) :=
  fun i : S4x8192x2048.Idx => gelu (m ((c : Thread nD τ).loc main_arg0) i)

/-- What the write-back at `t` writes is the block of `rows` at `t`. -/
theorem flushed_eq (c : Dev nD) (t : Fin cfg0.N) :
    (dats m 0 c).flushed (1 : Fin 2) t = ((cfg0.win (1 : Fin 2)).blk t).view.read (Elt F) (rows m c) := by
  change win0_0.cut (grid0.coords t) (ystage m c t) = fun j => gelu (xrows m c t j)
  exact win0_0.cut_fill _ _ _

/-- The block at `t` starts at row `2040 * t` and column 0; it has the array's rows below `2040 * (t + 1)`, in all columns. -/
theorem geometry : ∀ t : Fin grid0.N, win0_1.index t 0 = t.val ∧ win0_1.index t 1 = 0
    ∧ win0_1.xsize (grid0.coords t) 0 = min 2040 (32768 - 2040 * t.val) ∧ win0_1.xsize (grid0.coords t) 1 = 2048 := by
  decide +kernel

/-- A row is in the block at its number divided by 2040. -/
theorem cover (i : S32768x2048.Idx) : ∃ t : Fin cfg0.N, (cfg0.win (1 : Fin 2)).flush t = true ∧ i ∈ ((cfg0.win (1 : Fin 2)).blk t).view.set := by
  have h0 : (i 0).val < 32768 := (i 0).isLt
  have h1 : (i 1).val < 2048 := (i 1).isLt
  let t : Fin grid0.N := ⟨(i 0).val / 2040, by rw [N_0]; omega⟩
  obtain ⟨e0, e1, x0, x1⟩ := geometry t
  refine ⟨t, flush0_1 t, ?_⟩
  change i ∈ ((View.whole main_v1).slice (win0_1.rect t)).set
  rw [View.set_slice_whole, Rect.mem_set_unit]
  have ht : t.val = (i 0).val / 2040 := rfl
  intro a
  match a with
  | ⟨0, _⟩ =>
    change win0_1.index t 0 * 2040 ≤ (i 0).val ∧ (i 0).val < win0_1.index t 0 * 2040 + win0_1.xsize (grid0.coords t) 0
    rw [e0, x0]; omega
  | ⟨1, _⟩ =>
    change win0_1.index t 1 * 2048 ≤ (i 1).val ∧ (i 1).val < win0_1.index t 1 * 2048 + win0_1.xsize (grid0.coords t) 1
    rw [e1, x1]; omega

/-- The region's array ends at `rows`. -/
theorem array_eq (c : Dev nD) : (dats m 0 c).arrAt (1 : Fin 2) cfg0.N = rows m c :=
  (dats m 0 c).arrAt_eq_of_cover (1 : Fin 2) (rows m c) (fun t _ => flushed_eq m c t) cover

/-- The region finds the argument reshaped to rows. -/
theorem rows_in (c : Dev nD) :
    V m c main_v0 = shapeCast S32768x2048 (m ((c : Thread nD τ).loc main_arg0) : S4x8192x2048.Idx → Elt F .f32) shapeCasts_S4x8192x2048_S32768x2048 := by
  refine (StableHlo.reshape_result (τ := τ) (Val := Elt F) main_arg0 main_v0 rfl shapeCasts_S4x8192x2048_S32768x2048 (by decide) (by decide)
    (fun b => m (c, b))).trans ?_
  rfl

/-- The program's result ends at `result`: the two reshapes cancel around an entry-by-entry map. -/
theorem tail_eq (c : Dev nD) : Pipeline.afterTail₀ cfgs (dats m) 0 (V0 m) [hostOps1] c main_v2 = result m c := by
  refine (StableHlo.reshape_result (τ := τ) (Val := Elt F) main_v1 main_v2 rfl shapeCasts_S32768x2048_S4x8192x2048 (by decide) (by decide) _).trans ?_
  have harr := Pipeline.withArrays_arr spec0 launch0.win.arr_inj c (V0 m c) (fun w => (dats m 0 c).arrAt w cfg0.N) (1 : Fin 2)
  have e : Pipeline.withArrays spec0 c (V0 m c) (fun w => (dats m 0 c).arrAt w cfg0.N) (Proc.devRef .tc main_v1) = rows m c :=
    harr.trans (array_eq m c)
  change shapeCast S4x8192x2048 (Pipeline.withArrays spec0 c (V0 m c) (fun w => (dats m 0 c).arrAt w cfg0.N) (Proc.devRef .tc main_v1))
    shapeCasts_S32768x2048_S4x8192x2048 = result m c
  rw [e]
  funext i
  change gelu (V m c main_v0 _) = gelu _
  rw [rows_in]
  exact congrArg (fun Z : S4x8192x2048.Idx → Elt F .f32 => gelu (Z i))
    (shapeCast_shapeCast _ shapeCasts_S4x8192x2048_S32768x2048 shapeCasts_S32768x2048_S4x8192x2048)

/-- The program ends with `result` in its result array and its arguments as it found them. -/
theorem value : θ_run defs (onTc (τ := τ) (main (F := F))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h.1 c).2 main_v2 (Pipeline.mem_restRefs_of main_v2 (by decide) (by decide))).trans (tail_eq m c),
       ((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c),
       ((h.1 c).2 main_arg2 (Pipeline.mem_restRefs_of main_arg2 (by decide) (by decide))).trans (W_main_arg2 m (dats m) c)⟩)
    (run m ρ)

end Cert.KernelIdeal.Run

end
-- ==== Proof.Formula.lean ====
/-
  The equation between the two formulas, on extended reals. The kernel adds `hx` and `hx * tanh z`, the reference
  multiplies `hx` by `1 + tanh z`; inside `tanh` the kernel has `x * (k1 * x² + k0)`, the reference `k0 * (x + c * x³)`,
  and the name `k1` stands for the product of the words of `c` and `k0`. The two agree at every real entry and at `+∞`.
-/
module

public import proofs.«01_k».proof.Proof.IdealValue

@[expose] public section

noncomputable section

namespace Cert.Formula

open Idealize.ShloMosaic

/-- The word 0x3F000000 is one half. -/
theorem half : Ideal.ofBits .f32 0x3F000000#32 = ((1 / 2 : ℝ) : EReal) := by
  simp [Ideal.ofBits, Ideal.ieee, -EReal.coe_mul]; norm_num

/-- The word 0x3F800000 is one. -/
theorem one : Ideal.ofBits .f32 0x3F800000#32 = ((1 : ℝ) : EReal) := by
  simp [Ideal.ofBits, Ideal.ieee, -EReal.coe_mul]; norm_num

/-- The word 0x3F4C422A, next to the root of 2/π, is 6693141 / 2²³. -/
theorem root : Ideal.ofBits .f32 0x3F4C422A#32 = ((6693141 / 8388608 : ℝ) : EReal) := by
  simp [Ideal.ofBits, Ideal.ieee, -EReal.coe_mul]; norm_num

/-- The word 0x3D372713, next to 0.044715, is 12003091 / 2²⁸. -/
theorem cubic : Ideal.ofBits .f32 0x3D372713#32 = ((12003091 / 268435456 : ℝ) : EReal) := by
  simp [Ideal.ofBits, Ideal.ieee, -EReal.coe_mul]; norm_num

/-- The name "k1" stands for the product of those two, a fraction in lowest terms. -/
theorem name : (Named.named (F := Ideal) Cert.KernelIdeal.κ "k1" 0x3D122279#32 : Ideal .f32)
    = ((80338380498831 / 2251799813685248 : ℝ) : EReal) :=
  IdealRules.named_const.ideal_named_scalar _ _ _ _ rfl

/-- The reference's formula at one entry. -/
def gelu (x : EReal) : EReal :=
  Ideal.ofBits .f32 0x3F000000#32 * x * (Ideal.ofBits .f32 0x3F800000#32
    + Ideal.tanh (Ideal.ofBits .f32 0x3F4C422A#32 * (x + Ideal.ofBits .f32 0x3D372713#32 * (x * x * x))))

/-- The kernel's formula is the reference's at every entry but `-∞`. -/
theorem gelu_eq (x : EReal) (hx : x ≠ ⊥) : Cert.KernelIdeal.Run.gelu (F := Ideal) x = gelu x := by
  change Ideal.ofBits .f32 0x3F000000#32 * x + Ideal.ofBits .f32 0x3F000000#32 * x * Ideal.tanh (x
    * ((Named.named (F := Ideal) Cert.KernelIdeal.κ "k1" 0x3D122279#32 : Ideal .f32) * (x * x) + Ideal.ofBits .f32 0x3F4C422A#32)) = _
  unfold gelu
  rw [half, one, root, cubic, name]
  induction x with
  | bot => exact absurd rfl hx
  | top =>
    rw [EReal.coe_mul_top_of_pos (by norm_num), EReal.top_mul_top, EReal.top_mul_top, EReal.coe_mul_top_of_pos (by norm_num),
      EReal.coe_mul_top_of_pos (by norm_num), EReal.top_add_coe, EReal.top_mul_top, EReal.top_add_top,
      EReal.coe_mul_top_of_pos (by norm_num), Ideal.tanh_top]
    rw [show ((1 : ℝ) : EReal) + 1 = ((2 : ℝ) : EReal) by norm_cast, EReal.top_mul_coe_of_pos (by norm_num), mul_one, EReal.top_add_top]
  | coe r =>
    rw [← EReal.coe_mul, ← EReal.coe_mul, ← EReal.coe_mul, ← EReal.coe_add, ← EReal.coe_mul, Ideal.tanh_coe,
      ← EReal.coe_mul, ← EReal.coe_add, ← EReal.coe_mul, ← EReal.coe_mul, ← EReal.coe_add, ← EReal.coe_mul, Ideal.tanh_coe,
      ← EReal.coe_add, ← EReal.coe_mul]
    congr 1
    rw [show r * (80338380498831 / 2251799813685248 * (r * r) + 6693141 / 8388608)
      = 6693141 / 8388608 * (r + 12003091 / 268435456 * (r * r * r)) by ring]
    ring

end Cert.Formula

end
-- ==== Proof.Entries.lean ====
/-
  What the claim about values needs beside the kernel's run: the precondition read at one entry, and the reference's
  result read at one entry.
-/
module

public import proofs.«01_k».proof.Proof.Formula
public import proofs.«01_k».proof.Proof.Gen.Pre_no_minus_inf
public import proofs.«01_k».proof.Proof.Gen.ReferenceIdeal.Run
public import Idealize.ShloMosaic.Lib.ReduceAll

@[expose] public section

noncomputable section

namespace Cert.Entries

open Idealize.ShloMosaic Idealize.ShloMosaic.TcCoe Idealize.SL.Sem

/-- The word 0xFF800000 is `-∞`. -/
theorem minus_inf : Ideal.ofBits .f32 0xFF800000#32 = ⊥ := by
  simp [Ideal.ofBits, Ideal.ieee]

/-- Where the precondition is all ones, no entry of its first argument is `-∞`. -/
theorem ne_bot [Cert.Pre_no_minus_inf.Facts] (x : FVec Ideal Cert.Pre_no_minus_inf.S4x8192x2048 .f32) (a b : FVec Ideal Cert.Pre_no_minus_inf.S_ .f32)
    (h : Cert.Pre_no_minus_inf.fn (F := Ideal) x a b = fun _ => 1#1) (i : Cert.Pre_no_minus_inf.S4x8192x2048.Idx) : (x i : EReal) ≠ ⊥ := by
  have hi := Host.reduce_andi_eq_one _ _ _ _ (fun k => k.elim0) (congrFun h fun k => k.elim0) i (funext fun k => k.elim0)
  intro e
  change Ideal.cmp .ogt (x i) (Ideal.ofBits .f32 0xFF800000#32) = 1#1 at hi
  rw [minus_inf, e] at hi
  simp [Ideal.cmp] at hi

/-- The reference leaves the formula of its first argument, entry by entry, and its arguments as it found them. -/
theorem reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v12)
          = (fun i : Cert.ReferenceIdeal.S4x8192x2048.Idx => Cert.Formula.gelu (m ((c.tc : Thread Cert.ReferenceIdeal.nD Cert.ReferenceIdeal.τ).loc Cert.ReferenceIdeal.main_arg0) i))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun _ h c => ⟨(h c).1.trans rfl, (h c).2⟩) (Cert.ReferenceIdeal.Value.run (F := Ideal) m ρ)

end Cert.Entries

end
-- ==== Proof.lean ====
/-
  The certificate. The kernel and its idealization run and leave their arguments unchanged (`KernelRun`, `IdealRun`);
  the idealization renames one constant; and on extended reals the idealized kernel and the reference leave equal results
  wherever no entry is `-∞` (`IdealValue`, `Formula`, `Entries`).
-/
module

public import proofs.«01_k».proof.Defs
public import proofs.«01_k».proof.Proof.KernelRun
public import proofs.«01_k».proof.Proof.IdealRun
public import proofs.«01_k».proof.Proof.IdealValue
public import proofs.«01_k».proof.Proof.Formula
public import proofs.«01_k».proof.Proof.Entries
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_no_minus_inf

@[expose] public section

noncomputable section

namespace Cert.Proof

open Idealize.ShloMosaic Idealize.SL.Sem

/-- The reference runs, leaves its arguments unchanged, and has no semaphore whose counter could end above zero. -/
theorem frame_reference : Cert.quiescent_ReferenceIdeal := fun m g _ =>
  (θ_run _ _ _).mono (fun r h => ⟨fun c => (h c).2, sem_eq_zero_of_no_sems (by decide) r.2⟩) (Cert.Entries.reference m g)

/-- The idealized kernel and the reference leave equal results where no entry is `-∞`. -/
theorem values : Cert.algebraic_KernelIdeal_ReferenceIdeal_pre_no_minus_inf := by
  intro m g m' g' hpre hargs
  refine ⟨fun c => Cert.KernelIdeal.Run.result m c, Cert.KernelIdeal.Run.value m g, ?_⟩
  refine (θ_run _ _ _).mono (fun r h c => ⟨(h c).1.trans ?_, (h c).2⟩) (Cert.Entries.reference m' g')
  funext i
  rw [(hargs c).1]
  exact (Cert.Formula.gelu_eq _ (Cert.Entries.ne_bot _ _ _ (hpre c) i)).symm

/-- Every claim of this directory. -/
theorem claim : Cert.Claim :=
  ⟨Cert.Kernel.Gen.facts, Cert.KernelIdeal.Gen.facts, Cert.ReferenceIdeal.Gen.facts, Cert.Pre_no_minus_inf.Gen.facts,
    fun m g _ => Cert.Kernel.Run.frame m g,
    fun m g _ => Cert.KernelIdeal.Run.frame m g,
    fun m g _ => Cert.KernelIdeal.Run.frame m g,
    frame_reference,
    fun m g _ => frame_reference m g trivial,
    IdealRules.named_const.statement _ _ _ _ _ rfl,
    values⟩

end Cert.Proof

end
